-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "scale" .f32 0x3EE8BA2F#32 ((5 / 11 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x128 : Shape := ⟨2, ![100000, 128]⟩
abbrev S32x128 : Shape := ⟨2, ![32, 128]⟩
abbrev S32 : Shape := ⟨1, ![32]⟩
abbrev S32x32 : Shape := ⟨2, ![32, 32]⟩
abbrev S128x32 : Shape := ⟨2, ![128, 32]⟩
abbrev S128 : Shape := ⟨1, ![128]⟩
abbrev S1 : Shape := ⟨1, ![1]⟩
abbrev S1x32 : Shape := ⟨2, ![1, 32]⟩
abbrev S1x128 : Shape := ⟨2, ![1, 128]⟩
abbrev S1x1 : Shape := ⟨2, ![1, 1]⟩
abbrev S14288x128 : Shape := ⟨2, ![14288, 128]⟩
abbrev S14288x32 : Shape := ⟨2, ![14288, 32]⟩
abbrev S100000x1x128 : Shape := ⟨3, ![100000, 1, 128]⟩

abbrev nBuf : Space → Nat
  | .hbm => 18
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S32x128, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S128x32, .f32⟩
  | .hbm, ⟨6, _⟩ => ⟨S128, .f32⟩
  | .hbm, ⟨7, _⟩ => ⟨S1, .f32⟩
  | .hbm, ⟨8, _⟩ => ⟨S128x32, .f32⟩
  | .hbm, ⟨9, _⟩ => ⟨S32x32, .f32⟩
  | .hbm, ⟨10, _⟩ => ⟨S32x128, .f32⟩
  | .hbm, ⟨11, _⟩ => ⟨S1x32, .f32⟩
  | .hbm, ⟨12, _⟩ => ⟨S1x32, .f32⟩
  | .hbm, ⟨13, _⟩ => ⟨S1x128, .f32⟩
  | .hbm, ⟨14, _⟩ => ⟨S1x1, .f32⟩
  | .hbm, ⟨15, _⟩ => ⟨S100000x128, .f32⟩
  | .hbm, ⟨16, _⟩ => ⟨S100000x128, .f32⟩
  | .hbm, ⟨17, _⟩ => ⟨S100000x1x128, .f32⟩
  | .local _ .vmem, ⟨0, _⟩ => ⟨S14288x128, .f32⟩
  | .local _ .vmem, ⟨1, _⟩ => ⟨S14288x128, .f32⟩
  | .local _ .vmem, ⟨2, _⟩ => ⟨S128x32, .f32⟩
  | .local _ .vmem, ⟨3, _⟩ => ⟨S1x32, .f32⟩
  | .local _ .vmem, ⟨4, _⟩ => ⟨S32x32, .f32⟩
  | .local _ .vmem, ⟨5, _⟩ => ⟨S1x32, .f32⟩
  | .local _ .vmem, ⟨6, _⟩ => ⟨S32x128, .f32⟩
  | .local _ .vmem, ⟨7, _⟩ => ⟨S1x128, .f32⟩
  | .local _ .vmem, ⟨8, _⟩ => ⟨S1x1, .f32⟩
  | .local _ .vmem, ⟨9, _⟩ => ⟨S14288x128, .f32⟩
  | .local _ .vmem, ⟨10, _⟩ => ⟨S14288x128, .f32⟩
  | .local _ .vmem, ⟨11, _⟩ => ⟨S14288x128, .f32⟩
  | .local _ .vmem, ⟨12, _⟩ => ⟨S14288x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S14288x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S14288x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S14288x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "scale" => some ((5 / 11 : ℝ) : EReal)
  | _ => none
-- ==== ReferenceIdeal.lean ====
abbrev S100000x128 : Shape := ⟨2, ![100000, 128]⟩
abbrev S32x128 : Shape := ⟨2, ![32, 128]⟩
abbrev S32 : Shape := ⟨1, ![32]⟩
abbrev S32x32 : Shape := ⟨2, ![32, 32]⟩
abbrev S128x32 : Shape := ⟨2, ![128, 32]⟩
abbrev S128 : Shape := ⟨1, ![128]⟩
abbrev S1 : Shape := ⟨1, ![1]⟩
abbrev S100000x1x128 : Shape := ⟨3, ![100000, 1, 128]⟩
abbrev S_ : Shape := ⟨0, ![]⟩
abbrev S100000x1x32 : Shape := ⟨3, ![100000, 1, 32]⟩
abbrev S1x1x32 : Shape := ⟨3, ![1, 1, 32]⟩
abbrev S1x1x128 : Shape := ⟨3, ![1, 1, 128]⟩

abbrev nBuf : Space → Nat
  | .hbm => 70
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S32x128, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S128x32, .f32⟩
  | .hbm, ⟨6, _⟩ => ⟨S128, .f32⟩
  | .hbm, ⟨7, _⟩ => ⟨S1, .f32⟩
  | .hbm, ⟨8, _⟩ => ⟨S100000x1x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .i1⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S128x32, .f32⟩
  | .hbm, ⟨22, _⟩ => ⟨S100000x1x32, .f32⟩
  | .hbm, ⟨23, _⟩ => ⟨S1x1x32, .f32⟩
  | .hbm, ⟨24, _⟩ => ⟨S100000x1x32, .f32⟩
  | .hbm, ⟨25, _⟩ => ⟨S100000x1x32, .f32⟩
  | .hbm, ⟨26, _⟩ => ⟨S100000x1x32, .f32⟩
  | .hbm, ⟨27, _⟩ => ⟨S100000x1x32, .f32⟩
  | .hbm, ⟨28, _⟩ => ⟨S100000x1x32, .f32⟩
  | .hbm, ⟨29, _⟩ => ⟨S100000x1x32, .f32⟩
  | .hbm, ⟨30, _⟩ => ⟨S_, .f32⟩
  | .hbm, ⟨31, _⟩ => ⟨S100000x1x32, .f32⟩
  | .hbm, ⟨32, _⟩ => ⟨S100000x1x32, .f32⟩
  | .hbm, ⟨33, _⟩ => ⟨S_, .f32⟩
  | .hbm, ⟨34, _⟩ => ⟨S100000x1x32, .f32⟩
  | .hbm, ⟨35, _⟩ => ⟨S100000x1x32, .f32⟩
  | .hbm, ⟨36, _⟩ => ⟨S100000x1x32, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S100000x1x32, .f32⟩
  | .hbm, ⟨41, _⟩ => ⟨S100000x1x32, .f32⟩
  | .hbm, ⟨42, _⟩ => ⟨S32x32, .f32⟩
  | .hbm, ⟨43, _⟩ => ⟨S100000x1x32, .f32⟩
  | .hbm, ⟨44, _⟩ => ⟨S1x1x32, .f32⟩
  | .hbm, ⟨45, _⟩ => ⟨S100000x1x32, .f32⟩
  | .hbm, ⟨46, _⟩ => ⟨S100000x1x32, .f32⟩
  | .hbm, ⟨47, _⟩ => ⟨S100000x1x32, .f32⟩
  | .hbm, ⟨48, _⟩ => ⟨S100000x1x32, .f32⟩
  | .hbm, ⟨49, _⟩ => ⟨S100000x1x32, .f32⟩
  | .hbm, ⟨50, _⟩ => ⟨S100000x1x32, .f32⟩
  | .hbm, ⟨51, _⟩ => ⟨S_, .f32⟩
  | .hbm, ⟨52, _⟩ => ⟨S100000x1x32, .f32⟩
  | .hbm, ⟨53, _⟩ => ⟨S100000x1x32, .f32⟩
  | .hbm, ⟨54, _⟩ => ⟨S_, .f32⟩
  | .hbm, ⟨55, _⟩ => ⟨S100000x1x32, .f32⟩
  | .hbm, ⟨56, _⟩ => ⟨S100000x1x32, .f32⟩
  | .hbm, ⟨57, _⟩ => ⟨S100000x1x32, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S100000x1x32, .f32⟩
  | .hbm, ⟨62, _⟩ => ⟨S100000x1x32, .f32⟩
  | .hbm, ⟨63, _⟩ => ⟨S32x128, .f32⟩
  | .hbm, ⟨64, _⟩ => ⟨S100000x1x128, .f32⟩
  | .hbm, ⟨65, _⟩ => ⟨S1x1x128, .f32⟩
  | .hbm, ⟨66, _⟩ => ⟨S100000x1x128, .f32⟩
  | .hbm, ⟨67, _⟩ => ⟨S100000x1x128, .f32⟩
  | .hbm, ⟨68, _⟩ => ⟨S100000x1x128, .f32⟩
  | .hbm, ⟨69, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_cst_0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_1 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_cst_4 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_5 : Ref sig .tc := ⟨.hbm, 58, rfl⟩
abbrev main_cst_6 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩

abbrev nD : Nat := 1
abbrev τ : Topo := Topo.v7x

variable {F : FTy → Type} [FloatOps F]
-- ==== Proof.KernelFrame.lean ====
/- The kernel, on the machine's own floats: from any memory with zero counters its run terminates, its arguments are unchanged
   and every counter ends at zero. Nothing is said here of the results, so what the body leaves in the two result buffers is
   left unnamed. -/
module

public import proofs.«01_k».proof.Proof.Gen.Kernel.Frame
public import proofs.«01_k».proof.Proof.Gen.Kernel.Skeleton
public import proofs.«01_k».proof.Proof.Gen.Kernel.Points
public import Idealize.ShloMosaic.Lib.Pipeline.Frame
public import Idealize.ShloMosaic.Lib.Tactic
public import Idealize.ShloMosaic.PureOps.BitExact

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable (m : (ℓ : Loc nD τ sig) → Buf (Elt Bits) ℓ) (ρ : Dev nD → PrngReg)

/-- The body's triple: from whole buffers it owns, it runs to its end leaving the eight inputs as they were and the two
    result buffers at some contents. -/
theorem kernelRun (c : Dev nD) (E : Set ℕ) (i : grid0.Coords)
    (a1 : Memref sig .tc .vmem S14288x128 .f32) (h1 : a1.IsWhole) (a2 : Memref sig .tc .vmem S128x32 .f32) (h2 : a2.IsWhole)
    (a3 : Memref sig .tc .vmem S1x32 .f32) (h3 : a3.IsWhole) (a4 : Memref sig .tc .vmem S32x32 .f32) (h4 : a4.IsWhole)
    (a5 : Memref sig .tc .vmem S1x32 .f32) (h5 : a5.IsWhole) (a6 : Memref sig .tc .vmem S32x128 .f32) (h6 : a6.IsWhole)
    (a7 : Memref sig .tc .vmem S1x128 .f32) (h7 : a7.IsWhole) (a8 : Memref sig .tc .vmem S1x1 .f32) (h8 : a8.IsWhole)
    (a9 : Memref sig .tc .vmem S14288x128 .f32) (h9 : a9.IsWhole) (a10 : Memref sig .tc .vmem S14288x128 .f32) (h10 : a10.IsWhole)
    (x : Vec Bits S14288x128 .f32) (w1 : Vec Bits S128x32 .f32) (b1 : Vec Bits S1x32 .f32) (w2 : Vec Bits S32x32 .f32)
    (b2 : Vec Bits S1x32 .f32) (w3 : Vec Bits S32x128 .f32) (b3 : Vec Bits S1x128 .f32) (beta : Vec Bits S1x1 .f32)
    (K : PUnit → sProp (MT nD τ sig Unit (Elt Bits) ℕ (UR sig nD τ) ℕ)) :
    iprop(owns (c : Thread nD τ) a1 fullShare x ∗ owns (c : Thread nD τ) a2 fullShare w1 ∗ owns (c : Thread nD τ) a3 fullShare b1
        ∗ owns (c : Thread nD τ) a4 fullShare w2 ∗ owns (c : Thread nD τ) a5 fullShare b2 ∗ owns (c : Thread nD τ) a6 fullShare w3
        ∗ owns (c : Thread nD τ) a7 fullShare b3 ∗ owns (c : Thread nD τ) a8 fullShare beta
        ∗ (∃ d, owns (c : Thread nD τ) a9 fullShare d) ∗ (∃ d, owns (c : Thread nD τ) a10 fullShare d)
        ∗ (iprop(owns (c : Thread nD τ) a1 fullShare x ∗ owns (c : Thread nD τ) a2 fullShare w1 ∗ owns (c : Thread nD τ) a3 fullShare b1
            ∗ owns (c : Thread nD τ) a4 fullShare w2 ∗ owns (c : Thread nD τ) a5 fullShare b2 ∗ owns (c : Thread nD τ) a6 fullShare w3
            ∗ owns (c : Thread nD τ) a7 fullShare b3 ∗ owns (c : Thread nD τ) a8 fullShare beta
            ∗ (∃ d, owns (c : Thread nD τ) a9 fullShare d) ∗ (∃ d, owns (c : Thread nD τ) a10 fullShare d)) -∗ K ⟨⟩))
      ⊢ wp frame (wpE (defs₀ (F := Bits)) Variants.none c none) E
          (cc0__invres_kernel i a1 h1 a2 h2 a3 h3 a4 h4 a5 h5 a6 h6 a7 h7 a8 h8 a9 h9 a10 h10) K := by
  simp only [cc0__invres_kernel_eq_skeleton]; unfold cc0__invres_kernel_skel
  simp only [k0_part1_eq_skeleton]; unfold k0_part1_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%f8, %e8, H8⟩, ⟨%d9, %f9, -, H9⟩, ⟨%d10, %f10, -, H10⟩, Hk⟩
  sl_exec
  sl_step
  iapply Hk
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists _, _; isplitr; swap; · iexact H9
    ipureintro; rfl
  · iexists _, _; isplitr; swap; · iexact H10
    ipureintro; rfl

/-- The windows whose contents are left unnamed: the two results. -/
def forgets : Fin 10 → Bool := fun w => decide (8 ≤ w.val)

/-- Contents for the part of a staging buffer past the array's end, which nothing reads. -/
def pad : Vec Bits S14288x128 .f32 := fun _ => (FloatOps.ofBits .f32 0#32 : Bits .f32)

/-- The proof data on core `c`: the arrays as the region finds them; after the body every input buffer holds its block; the
    results unnamed; full shares; nothing owed. -/
def dats (_ : Fin 1) (c : Dev nD) : Dat τ (Elt Bits) Unit ℕ (UR sig nD τ) ℕ cfg0 c where
  A w := V m c (Pipeline.arrRef spec0 w)
  after w t := match w with
    | ⟨0, _⟩ => win0_0.fill (grid0.coords t) pad (iblk m c 0 t)
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Pipeline.Dat.unnamed (cfg := cfg0) 8 t
    | ⟨9, _⟩ => Pipeline.Dat.unnamed (cfg := cfg0) 9 t
  Φ _ := Pipeline.ΦA spec0 c
  q _ := fullShare
  owed _ := 0

theorem A_eq (c : Dev nD) (w : Fin cfg0.W) : (dats m 0 c).A w = V m c (Pipeline.arrRef spec0 w) := by dsimp only [dats]

/-- The buffer of `x` holds, before the body, the fetched block on the rows inside the array and anything past them. -/
theorem before_0 (c : Dev nD) (t : Fin cfg0.N) (d) :
    (dats m 0 c).before 0 t d = win0_0.fill (grid0.coords t) d (iblk m c 0 t) := by
  unfold Dat.before; rw [if_pos (fetch0_0 t)]; rfl

/-- The body table's row at the point is the body as `bodyAt0` spells it. -/
theorem body_row (t : Fin cfg0.N) :
    defs₀ (F := Bits) .tc cfg0.body (cfg0.bodyArgs t (cfg0.slots t)) = bodyAt0 t := by
  unfold defs₀; rw [Defs.onTc_tc]

/-- The body's obligation at every point: the inputs are left as found, the results at some contents. -/
theorem body_obligation (c : Dev nD) :
    BodyObligationLoose (dats m 0 c) (defs₀ (F := Bits)) Variants.none () Set.univ forgets := fun t => by
  rw [bigSep_W0, bigSep_W0, body_row]
  simp only [show forgets 8 = true from rfl, show forgets 9 = true from rfl,
    show forgets 0 = false from rfl, show forgets 1 = false from rfl, show forgets 2 = false from rfl, show forgets 3 = false from rfl,
    show forgets 4 = false from rfl, show forgets 5 = false from rfl, show forgets 6 = false from rfl, show forgets 7 = false from rfl]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before_0 m c t d0, before0_1_of m (dats m 0 c) (A_eq m c 1) (fun _ => rfl) t d1,
    before0_2_of m (dats m 0 c) (A_eq m c 2) (fun _ => rfl) t d2, before0_3_of m (dats m 0 c) (A_eq m c 3) (fun _ => rfl) t d3,
    before0_4_of m (dats m 0 c) (A_eq m c 4) (fun _ => rfl) t d4, before0_5_of m (dats m 0 c) (A_eq m c 5) (fun _ => rfl) t d5,
    before0_6_of m (dats m 0 c) (A_eq m c 6) (fun _ => rfl) t d6, before0_7_of m (dats m 0 c) (A_eq m c 7) (fun _ => rfl) t d7]
  unfold bodyAt0
  iapply (kernelRun c Set.univ (grid0.coords t) _ _ _ _ _ _ _ _ _ _ _ _ _ _ _ _ _ _ _ _
    (win0_0.fill (grid0.coords t) d0 (iblk m c 0 t)) (iblk m c 1 t) (iblk m c 2 t) (iblk m c 3 t) (iblk m c 4 t) (iblk m c 5 t)
    (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]
  · iexists d0
    change _ ⊢ owns (c : Thread nD τ) (stage0_0 (cfg0.slots t 0)) fullShare (win0_0.fill (grid0.coords t) d0
      (win0_0.cut (grid0.coords t) (win0_0.fill (grid0.coords t) pad (iblk m c 0 t))))
    rw [win0_0.cut_fill]
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The one operation after the region writes the second result only. -/
theorem tail_writes : ∀ ops ∈ ([hostOps1] : List (List (HloOp τ sig (Elt Bits)))), ∀ op ∈ ops,
    ∀ b : Ref sig .tc, Proc.devRef .tc b ∈ op.writes → b ∈ ({main_v8} : Finset (Ref sig .tc)) := by
  intro ops hops op hop b hb
  rw [List.mem_singleton] at hops
  subst hops
  rw [hostOps1, List.mem_singleton] at hop
  subst hop
  rw [StableHlo.reshape_writes, Finset.mem_singleton] at hb
  exact Finset.mem_singleton.mpr (Proc.devRef_injective _ hb)

-- the implicit arguments are found by unifying the conclusion with this statement, which takes unfolding plain definitions
-- in a metavariable's type
set_option backward.isDefEq.respectTransparency.types false in
/-- The run: it terminates, the input arrays and every buffer that nothing writes end as the region found them, and every
    counter ends at zero. -/
theorem run_main :
    θ_run defs (onTc (τ := τ) (main (F := Bits))) (s₀ m ρ) (fun r =>
      Pipeline.RDat.FramePostR (cfgs 0) (fun c => (dats m 0 c).toRForget forgets) {main_v8}
        (fun c b => V0 m c (Proc.devRef .tc b)) r ∧ r.2.sem = fun _ => 0) :=
  Pipeline.θ_run_frame_around_T_forget (Q' := _) cfgs (dats m) (0 : Fin 1) launch0 defs₀ Variants.none forgets {main_v8} m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps) (hT := tail_writes)
    (hmain := hmain m Variants.none) (hA := A_eq m) (hΦ := fun _ _ => rfl)

/-- The run, read at the arguments and the counters. -/
theorem run_args :
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => by
    have rest (b) (hb : b ∈ Pipeline.restRefs sig spec0 \ {main_v8}) := (h.1 c).2 b hb
    have h0 := (h.1 c).1 0
    rw [Pipeline.RDat.ArrAt_in _ 0 rfl] at h0
    exact ⟨h0.trans (V_main_arg0 m c),
      (rest main_arg1 (by decide)).trans (V_main_arg1 m c), (rest main_arg2 (by decide)).trans (V_main_arg2 m c),
      (rest main_arg3 (by decide)).trans (V_main_arg3 m c), (rest main_arg4 (by decide)).trans (V_main_arg4 m c),
      (rest main_arg5 (by decide)).trans (V_main_arg5 m c), (rest main_arg6 (by decide)).trans (V_main_arg6 m c),
      (rest main_arg7 (by decide)).trans (V_main_arg7 m c)⟩, h.2⟩)
    (run_main m ρ)

end Cert.Kernel.Hand

end
-- ==== Proof.IdealBody.lean ====
/- What one block of the idealized kernel computes: the body's two stored values as functions of the ten buffers'
   contents (`fxOf`, `outOf`), and the body's triple, which says that it leaves exactly these values in the two
   result buffers and every input buffer as it found it. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F] [Named F]

/-- The pre-activation of the second layer on one block. -/
def preOf (x : Vec F S14288x128 .f32) (w1 : Vec F S128x32 .f32) (b1 : Vec F S1x32 .f32) (w2 : Vec F S32x32 .f32)
    (b2 : Vec F S1x32 .f32) (beta : Vec F S1x1 .f32) : FVec F S14288x32 .f32 := k0_pay4 beta x w1 b1 w2 b2

/-- The hyperbolic tangent the second layer's activation is built from. -/
def thOf (x : Vec F S14288x128 .f32) (w1 : Vec F S128x32 .f32) (b1 : Vec F S1x32 .f32) (w2 : Vec F S32x32 .f32)
    (b2 : Vec F S1x32 .f32) (beta : Vec F S1x1 .f32) : FVec F S14288x32 .f32 := k0_pay5 beta x w1 b1 w2 b2

/-- What the body stores as the third layer's value on one block. -/
def fxOf (x : Vec F S14288x128 .f32) (w1 : Vec F S128x32 .f32) (b1 : Vec F S1x32 .f32) (w2 : Vec F S32x32 .f32)
    (b2 : Vec F S1x32 .f32) (w3 : Vec F S32x128 .f32) (b3 : Vec F S1x128 .f32) (beta : Vec F S1x1 .f32) :
    FVec F S14288x128 .f32 :=
  k0_pay1 (preOf x w1 b1 w2 b2 beta) (thOf x w1 b1 w2 b2 beta) (Scalar.ofBits .f32 0x3F800000#32) w3 b3

/-- What the body stores as the residual output on one block. -/
def outOf (x : Vec F S14288x128 .f32) (w1 : Vec F S128x32 .f32) (b1 : Vec F S1x32 .f32) (w2 : Vec F S32x32 .f32)
    (b2 : Vec F S1x32 .f32) (w3 : Vec F S32x128 .f32) (b3 : Vec F S1x128 .f32) (beta : Vec F S1x1 .f32) :
    FVec F S14288x128 .f32 :=
  k0_pay2 x (preOf x w1 b1 w2 b2 beta) (thOf x w1 b1 w2 b2 beta) (Scalar.ofBits .f32 0x3F800000#32) w3 b3

theorem zero_offs : (![0, 0] : Fin 2 → Nat) = fun _ => 0 := funext fun a => by fin_cases a <;> rfl

/-- A load of a whole buffer through the rectangle of its own size at offset zero reads its contents. -/
theorem load_whole {d : Fin 2 → Nat} {e : EltTy} {sp : Space} (M : Memref sig .tc sp ⟨2, d⟩ e)
    (f : M.view.ty.Contents (Elt F)) (inb : ∀ a, (![0, 0] : Fin 2 → Nat) a + d a ≤ d a) :
    M.view.readAt (Elt F) (Rect.unit (s := ⟨2, d⟩) ![0, 0] d inb).toLoadRect f = M.view.read (Elt F) f := by
  rw [View.readAt_eq_ld, View.ld_unit_zero zero_offs]

/-- One store through the whole rectangle covers the buffer. -/
theorem whole_covers (w : S14288x128.Idx → Elt F .f32) (y : S14288x128.Idx) :
    ∃ p ∈ [(⟨Rect.unit (s := S14288x128) ![0, 0] S14288x128.size inb_S14288x128_S14288x128_0_0, w⟩ :
      View.Piece (Elt F) S14288x128 .f32)], y ∈ p.1.set :=
  ⟨_, List.mem_singleton_self _, by
    rw [Rect.mem_set_unit]
    intro a
    have := (y a).isLt
    fin_cases a <;> simp_all⟩

/-- The body's triple: on whole buffers holding the eight inputs and anything in the two result buffers, the body runs to
    its end leaving the inputs as they were and the results at `outOf` and `fxOf` of the inputs. -/
theorem kernelRun (c : Dev nD) (E : Set ℕ) (i : grid0.Coords)
    (a1 : Memref sig .tc .vmem S14288x128 .f32) (h1 : a1.IsWhole) (a2 : Memref sig .tc .vmem S128x32 .f32) (h2 : a2.IsWhole)
    (a3 : Memref sig .tc .vmem S1x32 .f32) (h3 : a3.IsWhole) (a4 : Memref sig .tc .vmem S32x32 .f32) (h4 : a4.IsWhole)
    (a5 : Memref sig .tc .vmem S1x32 .f32) (h5 : a5.IsWhole) (a6 : Memref sig .tc .vmem S32x128 .f32) (h6 : a6.IsWhole)
    (a7 : Memref sig .tc .vmem S1x128 .f32) (h7 : a7.IsWhole) (a8 : Memref sig .tc .vmem S1x1 .f32) (h8 : a8.IsWhole)
    (a9 : Memref sig .tc .vmem S14288x128 .f32) (h9 : a9.IsWhole) (a10 : Memref sig .tc .vmem S14288x128 .f32) (h10 : a10.IsWhole)
    (x : Vec F S14288x128 .f32) (w1 : Vec F S128x32 .f32) (b1 : Vec F S1x32 .f32) (w2 : Vec F S32x32 .f32)
    (b2 : Vec F S1x32 .f32) (w3 : Vec F S32x128 .f32) (b3 : Vec F S1x128 .f32) (beta : Vec F S1x1 .f32)
    (K : PUnit → sProp (MT nD τ sig Unit (Elt F) ℕ (UR sig nD τ) ℕ)) :
    iprop(owns (c : Thread nD τ) a1 fullShare x ∗ owns (c : Thread nD τ) a2 fullShare w1 ∗ owns (c : Thread nD τ) a3 fullShare b1
        ∗ owns (c : Thread nD τ) a4 fullShare w2 ∗ owns (c : Thread nD τ) a5 fullShare b2 ∗ owns (c : Thread nD τ) a6 fullShare w3
        ∗ owns (c : Thread nD τ) a7 fullShare b3 ∗ owns (c : Thread nD τ) a8 fullShare beta
        ∗ (∃ d, owns (c : Thread nD τ) a9 fullShare d) ∗ (∃ d, owns (c : Thread nD τ) a10 fullShare d)
        ∗ (iprop(owns (c : Thread nD τ) a1 fullShare x ∗ owns (c : Thread nD τ) a2 fullShare w1 ∗ owns (c : Thread nD τ) a3 fullShare b1
            ∗ owns (c : Thread nD τ) a4 fullShare w2 ∗ owns (c : Thread nD τ) a5 fullShare b2 ∗ owns (c : Thread nD τ) a6 fullShare w3
            ∗ owns (c : Thread nD τ) a7 fullShare b3 ∗ owns (c : Thread nD τ) a8 fullShare beta
            ∗ owns (c : Thread nD τ) a9 fullShare (outOf x w1 b1 w2 b2 w3 b3 beta)
            ∗ owns (c : Thread nD τ) a10 fullShare (fxOf x w1 b1 w2 b2 w3 b3 beta)) -∗ K ⟨⟩))
      ⊢ wp frame (wpE (defs₀ (F := F)) Variants.none c none) E
          (cc0__invres_kernel i a1 h1 a2 h2 a3 h3 a4 h4 a5 h5 a6 h6 a7 h7 a8 h8 a9 h9 a10 h10) K := by
  simp only [cc0__invres_kernel_eq_skeleton]; unfold cc0__invres_kernel_skel
  simp only [k0_part1_eq_skeleton]; unfold k0_part1_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%f8, %e8, H8⟩, ⟨%d9, %f9, -, H9⟩, ⟨%d10, %f10, -, H10⟩, Hk⟩
  sl_exec
  sl_step
  iapply Hk
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists _; isplitr; swap; · iexact H9
    ipureintro
    rw [View.read_writes_eq_canon _ _ _ (whole_covers _), View.canon_unit_zero zero_offs]
    simp only [load_whole, e1, e2, e3, e4, e5, e6, e7, e8]
    rfl
  · iexists _; isplitr; swap; · iexact H10
    ipureintro
    rw [View.read_writes_eq_canon _ _ _ (whole_covers _), View.canon_unit_zero zero_offs]
    simp only [load_whole, e1, e2, e3, e4, e5, e6, e7, e8]
    rfl

end Cert.KernelIdeal.Hand

end
-- ==== Proof.Model.lean ====
/- The mathematics both programs compute, over the extended reals: the softplus of a number, the scaled Swish
   `h · σ(h·s) / 1.1`, an affine layer, and the three-layer branch built from them on one row of 128 numbers. The one
   equation between the two spellings of Swish is here too: the hyperbolic tangent of half the argument against the
   logistic function. -/
module

public import Idealize.ShloMosaic.Lib.Pointwise

@[expose] public section

noncomputable section

namespace Cert.Model

open Idealize.ShloMosaic

/-- `softplus b = max b 0 + log (1 + e^(-|b|))`, with `|b| = max b (-b)`. -/
def softplus (b : EReal) : EReal := max b 0 + Ideal.log1p (Ideal.exp (-(max b (-b))))

/-- The scaled Swish with sharpness `s`: `h · σ(h·s)` divided by `11/10`. -/
def swish (s h : EReal) : EReal := Ideal.div (h * Ideal.logistic (h * s)) (Ideal.div (11 : ℝ) (10 : ℝ))

/-- An affine layer: the vector `h` against each row of `W`, plus the bias. -/
def layer {n k : ℕ} (W : Fin k → Fin n → EReal) (b : Fin k → EReal) (h : Fin n → EReal) (j : Fin k) : EReal :=
  (∑ i, h i * W j i) + b j

/-- The residual branch on one row `x`: a layer to 32, Swish, a layer on 32, Swish, a layer back to 128. -/
def branch (W1 : Fin 32 → Fin 128 → EReal) (b1 : Fin 32 → EReal) (W2 : Fin 32 → Fin 32 → EReal) (b2 : Fin 32 → EReal)
    (W3 : Fin 128 → Fin 32 → EReal) (b3 : Fin 128 → EReal) (beta : EReal) (x : Fin 128 → EReal) : Fin 128 → EReal :=
  layer W3 b3 fun i => swish (softplus beta) (layer W2 b2 (fun k => swish (softplus beta) (layer W1 b1 x k)) i)

/-- The branch's value at row `r`, position `q`, of the eight argument arrays. -/
def fxAt (x : FVec Ideal ⟨2, ![100000, 128]⟩ .f32) (W1 : FVec Ideal ⟨2, ![32, 128]⟩ .f32) (b1 : FVec Ideal ⟨1, ![32]⟩ .f32)
    (W2 : FVec Ideal ⟨2, ![32, 32]⟩ .f32) (b2 : FVec Ideal ⟨1, ![32]⟩ .f32) (W3 : FVec Ideal ⟨2, ![128, 32]⟩ .f32)
    (b3 : FVec Ideal ⟨1, ![128]⟩ .f32) (beta : FVec Ideal ⟨1, ![1]⟩ .f32) (r : Fin 100000) (q : Fin 128) : EReal :=
  branch (fun j i => W1 (ix2 j i)) (fun j => b1 (ix1 j)) (fun j i => W2 (ix2 j i)) (fun j => b2 (ix1 j))
    (fun j i => W3 (ix2 j i)) (fun j => b3 (ix1 j)) (beta (ix1 0)) (fun i => x (ix2 r i)) q

/-- The output's value at row `r`, position `q`: the branch's value plus the row's own entry. -/
def outAt (x : FVec Ideal ⟨2, ![100000, 128]⟩ .f32) (W1 : FVec Ideal ⟨2, ![32, 128]⟩ .f32) (b1 : FVec Ideal ⟨1, ![32]⟩ .f32)
    (W2 : FVec Ideal ⟨2, ![32, 32]⟩ .f32) (b2 : FVec Ideal ⟨1, ![32]⟩ .f32) (W3 : FVec Ideal ⟨2, ![128, 32]⟩ .f32)
    (b3 : FVec Ideal ⟨1, ![128]⟩ .f32) (beta : FVec Ideal ⟨1, ![1]⟩ .f32) (r : Fin 100000) (q : Fin 128) : EReal :=
  fxAt x W1 b1 W2 b2 W3 b3 beta r q + x (ix2 r q)

/-- The float one half is the real one half. -/
theorem ofBits_half : Ideal.ofBits .f32 0x3F000000#32 = ((1 / 2 : ℝ) : EReal) := by
  simp [Ideal.ofBits, Ideal.ieee, -EReal.coe_mul]; norm_num

/-- The float eleven is the real eleven. -/
theorem ofBits_eleven : Ideal.ofBits .f32 0x41300000#32 = ((11 : ℝ) : EReal) := by
  simp [Ideal.ofBits, Ideal.ieee, -EReal.coe_mul]; norm_num

/-- The float ten is the real ten. -/
theorem ofBits_ten : Ideal.ofBits .f32 0x41200000#32 = ((10 : ℝ) : EReal) := by
  simp [Ideal.ofBits, Ideal.ieee, -EReal.coe_mul]; norm_num

/-- Over the reals, `1 + tanh (z/2)` is twice the logistic function. -/
theorem one_add_tanh_half_real (z : ℝ) : 1 + Real.tanh (1 / 2 * z) = 2 * (1 + Real.exp (-z))⁻¹ := by
  have h1 : Real.exp (-z) = Real.exp (-(1 / 2 * z)) * Real.exp (-(1 / 2 * z)) := by rw [← Real.exp_add]; congr 1; ring
  have h2 : Real.exp (1 / 2 * z) * Real.exp (-(1 / 2 * z)) = 1 := by rw [← Real.exp_add]; simp
  have p1 := Real.exp_pos (1 / 2 * z)
  have p2 := Real.exp_pos (-(1 / 2 * z))
  rw [Real.tanh_eq_sinh_div_cosh, Real.sinh_eq, Real.cosh_eq, h1]
  generalize Real.exp (1 / 2 * z) = a at *
  generalize Real.exp (-(1 / 2 * z)) = b at *
  have hb : a = 1 / b := by field_simp; linarith
  subst hb
  field_simp
  ring

/-- Over the extended reals, `1 + tanh (z/2)` is twice the logistic function. -/
theorem one_add_tanh_half (z : EReal) :
    1 + Ideal.tanh (((1 / 2 : ℝ) : EReal) * z) = ((2 : ℝ) : EReal) * Ideal.logistic z := by
  induction z with
  | bot =>
    rw [EReal.coe_mul_bot_of_pos (by norm_num), Ideal.tanh_bot, Ideal.logistic_bot, mul_zero]
    rw [← EReal.coe_one, ← EReal.coe_neg, ← EReal.coe_add]; norm_num
  | top =>
    rw [EReal.coe_mul_top_of_pos (by norm_num), Ideal.tanh_top, Ideal.logistic_top, mul_one]
    rw [← EReal.coe_one, ← EReal.coe_add]; norm_num
  | coe r =>
    rw [← EReal.coe_mul, Ideal.tanh_coe, Ideal.logistic_coe, ← EReal.coe_mul, ← EReal.coe_one, ← EReal.coe_add,
      one_add_tanh_half_real]

/-- The two spellings of the scaled Swish agree: `h · (1 + tanh (h · s/2)) · 5/11` is `swish s h`. -/
theorem swish_tanh (s h : EReal) :
    h * (1 + Ideal.tanh (h * (((1 / 2 : ℝ) : EReal) * s))) * ((5 / 11 : ℝ) : EReal) = swish s h := by
  rw [mul_left_comm h, one_add_tanh_half, swish, Ideal.div_coe (by norm_num : (10 : ℝ) ≠ 0), ← EReal.coe_mul,
    Ideal.div_coe (by norm_num), mul_left_comm h, mul_comm ((2 : ℝ) : EReal), mul_assoc, ← EReal.coe_mul]
  norm_num

end Cert.Model

end
-- ==== Proof.IdealBlock.lean ====
/- What one block of the idealized kernel holds, row by row: the two stored values at row `r` are the three-layer branch of
   row `r` of the block of `x`, and that plus the row itself. So a row of the results depends on the same row of `x` only. -/
module

public import proofs.«01_k».proof.Proof.IdealBody
public import proofs.«01_k».proof.Proof.Model

@[expose] public section

noncomputable section

namespace Cert.KernelIdeal.Hand

open Cert.KernelIdeal Cert.KernelIdeal.Gen Cert.Model
open Idealize.ShloMosaic

/-- The scalar the kernel multiplies pre-activations by is half the softplus of the sharpness. -/
theorem half_softplus (beta : Vec Ideal S1x1 .f32) :
    k0_pay3 (F := Ideal) beta = ((1 / 2 : ℝ) : EReal) * softplus (beta (ix2 0 0)) := by
  pointwise [k0_pay3, ofBits_half]
  rw [if_neg (not_not_intro rfl)]
  generalize beta (ix2 0 0) = b
  change _ * (max b 0 + Ideal.log1p (Ideal.exp ((0 : EReal) - max b (-b)))) = _
  rw [zero_sub]
  rfl

/-- The named constant is the rational 5/11. -/
theorem scale_eq : (Named.named κ "scale" 0x3EE8BA2F#32 : Ideal .f32) = ((5 / 11 : ℝ) : EReal) := rfl

/-- The second layer's pre-activation on row `r` of the block. -/
theorem preOf_apply (x : Vec Ideal S14288x128 .f32) (w1 : Vec Ideal S128x32 .f32) (b1 : Vec Ideal S1x32 .f32)
    (w2 : Vec Ideal S32x32 .f32) (b2 : Vec Ideal S1x32 .f32) (beta : Vec Ideal S1x1 .f32) (r : Fin 14288) (j : Fin 32) :
    preOf (F := Ideal) x w1 b1 w2 b2 beta (ix2 r j) =
      layer (fun j i => w2 (ix2 i j)) (fun j => b2 (ix2 0 j)) (fun k => swish (softplus (beta (ix2 0 0)))
        (layer (fun j i => w1 (ix2 i j)) (fun j => b1 (ix2 0 j)) (fun i => x (ix2 r i)) k)) j := by
  pointwise [preOf, k0_pay4]
  rw [half_softplus, scale_eq]
  simp only [swish_tanh]
  rfl

/-- The stored third-layer value on row `r` of the block is the branch of that row of `x`. -/
theorem fxOf_apply (x : Vec Ideal S14288x128 .f32) (w1 : Vec Ideal S128x32 .f32) (b1 : Vec Ideal S1x32 .f32)
    (w2 : Vec Ideal S32x32 .f32) (b2 : Vec Ideal S1x32 .f32) (w3 : Vec Ideal S32x128 .f32) (b3 : Vec Ideal S1x128 .f32)
    (beta : Vec Ideal S1x1 .f32) (r : Fin 14288) (q : Fin 128) :
    fxOf (F := Ideal) x w1 b1 w2 b2 w3 b3 beta (ix2 r q) =
      branch (fun j i => w1 (ix2 i j)) (fun j => b1 (ix2 0 j)) (fun j i => w2 (ix2 i j)) (fun j => b2 (ix2 0 j))
        (fun j i => w3 (ix2 i j)) (fun j => b3 (ix2 0 j)) (beta (ix2 0 0)) (fun i => x (ix2 r i)) q := by
  pointwise [fxOf, k0_pay1, thOf, k0_pay5]
  rw [half_softplus, scale_eq]
  simp only [← preOf.eq_def, preOf_apply, swish_tanh]
  rfl

/-- The stored output on row `r` of the block is the branch of that row of `x` plus the row. -/
theorem outOf_apply (x : Vec Ideal S14288x128 .f32) (w1 : Vec Ideal S128x32 .f32) (b1 : Vec Ideal S1x32 .f32)
    (w2 : Vec Ideal S32x32 .f32) (b2 : Vec Ideal S1x32 .f32) (w3 : Vec Ideal S32x128 .f32) (b3 : Vec Ideal S1x128 .f32)
    (beta : Vec Ideal S1x1 .f32) (r : Fin 14288) (q : Fin 128) :
    outOf (F := Ideal) x w1 b1 w2 b2 w3 b3 beta (ix2 r q) =
      branch (fun j i => w1 (ix2 i j)) (fun j => b1 (ix2 0 j)) (fun j i => w2 (ix2 i j)) (fun j => b2 (ix2 0 j))
        (fun j i => w3 (ix2 i j)) (fun j => b3 (ix2 0 j)) (beta (ix2 0 0)) (fun i => x (ix2 r i)) q + x (ix2 r q) := by
  rw [← fxOf_apply]
  rfl

end Cert.KernelIdeal.Hand

end
-- ==== Proof.IdealRows.lean ====
/- What the result arrays of the idealized kernel are to hold (`outArr`, `fxArr`), and why every block contributes its part:
   a block's rows that lie inside the array, computed from the staged blocks of the arguments, are the result arrays' own
   rows. The last block overhangs the array; what it computes past the array's end enters nowhere. -/
module

public import proofs.«01_k».proof.Proof.IdealBlock
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen Cert.Model
open Idealize.ShloMosaic Idealize.ShloMosaic.TcCoe Idealize.ShloMosaic.Tactic

variable (m : (ℓ : Loc nD τ sig) → Buf (Elt Ideal) ℓ) (c : Dev nD)

/-- The branch's value at row `r`, position `q`, of the launched arguments. -/
def fxVal (r : Fin 100000) (q : Fin 128) : EReal :=
  fxAt (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) r q

/-- The output's value at row `r`, position `q`, of the launched arguments. -/
def outVal (r : Fin 100000) (q : Fin 128) : EReal :=
  outAt (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) r q

/-- The array of the branch's values. -/
def fxArr : Buf (Elt Ideal) ((c.tc : Thread nD τ).loc main_v7_1) := fun i => fxVal m c (i 0) (i 1)

/-- The array of the outputs. -/
def outArr : Buf (Elt Ideal) ((c.tc : Thread nD τ).loc main_v7_0) := fun i => outVal m c (i 0) (i 1)

/-- Where each window's block lies at point `t`: block `t` of `x` and of the results, block 0 of every weight. -/
theorem index_at : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ win0_9.index t = ![t.val, 0] := by
  decide +kernel

/-- The staged first weight is the argument transposed. -/
theorem w1_apply (t : Fin cfg0.N) (i : Fin 128) (j : Fin 32) :
    (iblk m c 1 t : Vec Ideal S128x32 .f32) (ix2 i j) = m ((c.tc : Thread nD τ).loc main_arg1) (ix2 j i) := by
  trans V m c main_v0 (ix2 i j)
  · blk_ext [iblk, index_at t]
  · rw [show V m c main_v0 = transpose S128x32 [1, 0] (m ((c.tc : Thread nD τ).loc main_arg1)) transposes_S32x128_S128x32_1_0 by
      entry_read; rfl]
    pointwise

/-- The staged first bias is the argument. -/
theorem b1_apply (t : Fin cfg0.N) (j : Fin 32) :
    (iblk m c 2 t : Vec Ideal S1x32 .f32) (ix2 0 j) = m ((c.tc : Thread nD τ).loc main_arg2) (ix1 j) := by
  trans V m c main_v3 (ix2 0 j)
  · blk_ext [iblk, index_at t]
  · rw [show V m c main_v3 = shapeCast S1x32 (m ((c.tc : Thread nD τ).loc main_arg2)) shapeCasts_S32_S1x32 by
      entry_read; rfl]
    pointwise

/-- The staged second weight is the argument transposed. -/
theorem w2_apply (t : Fin cfg0.N) (i : Fin 32) (j : Fin 32) :
    (iblk m c 3 t : Vec Ideal S32x32 .f32) (ix2 i j) = m ((c.tc : Thread nD τ).loc main_arg3) (ix2 j i) := by
  trans V m c main_v1 (ix2 i j)
  · blk_ext [iblk, index_at t]
  · rw [show V m c main_v1 = transpose S32x32 [1, 0] (m ((c.tc : Thread nD τ).loc main_arg3)) transposes_S32x32_S32x32_1_0 by
      entry_read; rfl]
    pointwise

/-- The staged second bias is the argument. -/
theorem b2_apply (t : Fin cfg0.N) (j : Fin 32) :
    (iblk m c 4 t : Vec Ideal S1x32 .f32) (ix2 0 j) = m ((c.tc : Thread nD τ).loc main_arg4) (ix1 j) := by
  trans V m c main_v4 (ix2 0 j)
  · blk_ext [iblk, index_at t]
  · rw [show V m c main_v4 = shapeCast S1x32 (m ((c.tc : Thread nD τ).loc main_arg4)) shapeCasts_S32_S1x32 by
      entry_read; rfl]
    pointwise

/-- The staged third weight is the argument transposed. -/
theorem w3_apply (t : Fin cfg0.N) (i : Fin 32) (j : Fin 128) :
    (iblk m c 5 t : Vec Ideal S32x128 .f32) (ix2 i j) = m ((c.tc : Thread nD τ).loc main_arg5) (ix2 j i) := by
  trans V m c main_v2 (ix2 i j)
  · blk_ext [iblk, index_at t]
  · rw [show V m c main_v2 = transpose S32x128 [1, 0] (m ((c.tc : Thread nD τ).loc main_arg5)) transposes_S128x32_S32x128_1_0 by
      entry_read; rfl]
    pointwise

/-- The staged third bias is the argument. -/
theorem b3_apply (t : Fin cfg0.N) (j : Fin 128) :
    (iblk m c 6 t : Vec Ideal S1x128 .f32) (ix2 0 j) = m ((c.tc : Thread nD τ).loc main_arg6) (ix1 j) := by
  trans V m c main_v5 (ix2 0 j)
  · blk_ext [iblk, index_at t]
  · rw [show V m c main_v5 = shapeCast S1x128 (m ((c.tc : Thread nD τ).loc main_arg6)) shapeCasts_S128_S1x128 by
      entry_read; rfl]
    pointwise

/-- The staged sharpness is the argument. -/
theorem beta_apply (t : Fin cfg0.N) :
    (iblk m c 7 t : Vec Ideal S1x1 .f32) (ix2 0 0) = m ((c.tc : Thread nD τ).loc main_arg7) (ix1 0) := by
  trans V m c main_v6 (ix2 0 0)
  · blk_ext [iblk, index_at t]
  · rw [show V m c main_v6 = shapeCast S1x1 (m ((c.tc : Thread nD τ).loc main_arg7)) shapeCasts_S1_S1x1 by
      entry_read; rfl]
    pointwise

/-- The rows of the block at point `t` that lie inside the array: the row count of each cut, and where they end. -/
theorem rows_at : ∀ t : Fin cfg0.N, win0_0.xsize (grid0.coords t) 1 = 128 ∧
    t.val * 14288 + win0_0.xsize (grid0.coords t) 0 ≤ 100000 := by
  decide +kernel

/-- The block of `x` staged at point `t`, whatever fills it past the array's end: its row `r`, where inside the array, is
    row `14288 t + r` of `x`. -/
theorem x_apply (t : Fin cfg0.N) (d : Vec Ideal S14288x128 .f32) (r : Fin 14288) (q : Fin 128)
    (hr : r.val < win0_0.xsize (grid0.coords t) 0) (h : t.val * 14288 + r.val < 100000) :
    (win0_0.fill (grid0.coords t) d (iblk m c 0 t) : Vec Ideal S14288x128 .f32) (ix2 r q)
      = m ((c.tc : Thread nD τ).loc main_arg0) (ix2 ⟨t.val * 14288 + r.val, h⟩ q) := by
  have hm : win0_0.moved (grid0.coords t) (ix2 r q) = true := (win0_0.moved_iff _ _).mpr fun a => by
    match a with
    | ⟨0, _⟩ => exact hr
    | ⟨1, _⟩ => exact lt_of_lt_of_eq q.isLt (rows_at t).1.symm
  unfold Pipeline.Window.fill
  rw [dif_pos hm]
  trans V m c main_arg0 (ix2 ⟨t.val * 14288 + r.val, h⟩ q)
  · blk_ext [iblk, index_at t]
  · rw [V_main_arg0]

/-- The weights, biases and sharpness staged at point `t`, as the branch takes them, are the arguments. -/
theorem branch_staged (t : Fin cfg0.N) (x : Fin 128 → EReal) :
    branch (fun j i => (iblk m c 1 t : Vec Ideal S128x32 .f32) (ix2 i j)) (fun j => (iblk m c 2 t : Vec Ideal S1x32 .f32) (ix2 0 j))
        (fun j i => (iblk m c 3 t : Vec Ideal S32x32 .f32) (ix2 i j)) (fun j => (iblk m c 4 t : Vec Ideal S1x32 .f32) (ix2 0 j))
        (fun j i => (iblk m c 5 t : Vec Ideal S32x128 .f32) (ix2 i j)) (fun j => (iblk m c 6 t : Vec Ideal S1x128 .f32) (ix2 0 j))
        ((iblk m c 7 t : Vec Ideal S1x1 .f32) (ix2 0 0)) x
      = branch (fun j i => m ((c.tc : Thread nD τ).loc main_arg1) (ix2 j i)) (fun j => m ((c.tc : Thread nD τ).loc main_arg2) (ix1 j))
        (fun j i => m ((c.tc : Thread nD τ).loc main_arg3) (ix2 j i)) (fun j => m ((c.tc : Thread nD τ).loc main_arg4) (ix1 j))
        (fun j i => m ((c.tc : Thread nD τ).loc main_arg5) (ix2 j i)) (fun j => m ((c.tc : Thread nD τ).loc main_arg6) (ix1 j))
        (m ((c.tc : Thread nD τ).loc main_arg7) (ix1 0)) x := by
  rw [show (fun j i => (iblk m c 1 t : Vec Ideal S128x32 .f32) (ix2 i j)) = fun j i => m ((c.tc : Thread nD τ).loc main_arg1) (ix2 j i)
      from funext fun j => funext fun i => w1_apply m c t i j,
    show (fun j => (iblk m c 2 t : Vec Ideal S1x32 .f32) (ix2 0 j)) = fun j => m ((c.tc : Thread nD τ).loc main_arg2) (ix1 j)
      from funext fun j => b1_apply m c t j,
    show (fun j i => (iblk m c 3 t : Vec Ideal S32x32 .f32) (ix2 i j)) = fun j i => m ((c.tc : Thread nD τ).loc main_arg3) (ix2 j i)
      from funext fun j => funext fun i => w2_apply m c t i j,
    show (fun j => (iblk m c 4 t : Vec Ideal S1x32 .f32) (ix2 0 j)) = fun j => m ((c.tc : Thread nD τ).loc main_arg4) (ix1 j)
      from funext fun j => b2_apply m c t j,
    show (fun j i => (iblk m c 5 t : Vec Ideal S32x128 .f32) (ix2 i j)) = fun j i => m ((c.tc : Thread nD τ).loc main_arg5) (ix2 j i)
      from funext fun j => funext fun i => w3_apply m c t i j,
    show (fun j => (iblk m c 6 t : Vec Ideal S1x128 .f32) (ix2 0 j)) = fun j => m ((c.tc : Thread nD τ).loc main_arg6) (ix1 j)
      from funext fun j => b3_apply m c t j,
    beta_apply m c t]

/-- What the body stores as the branch's values at point `t`, from the staged blocks and `d` past the array's end of `x`. -/
def fxBlock (t : Fin cfg0.N) (d : Vec Ideal S14288x128 .f32) : Vec Ideal S14288x128 .f32 :=
  fxOf (F := Ideal) (win0_0.fill (grid0.coords t) d (iblk m c 0 t)) (iblk m c 1 t) (iblk m c 2 t) (iblk m c 3 t) (iblk m c 4 t)
    (iblk m c 5 t) (iblk m c 6 t) (iblk m c 7 t)

/-- What the body stores as the outputs at point `t`, from the staged blocks and `d` past the array's end of `x`. -/
def outBlock (t : Fin cfg0.N) (d : Vec Ideal S14288x128 .f32) : Vec Ideal S14288x128 .f32 :=
  outOf (F := Ideal) (win0_0.fill (grid0.coords t) d (iblk m c 0 t)) (iblk m c 1 t) (iblk m c 2 t) (iblk m c 3 t) (iblk m c 4 t)
    (iblk m c 5 t) (iblk m c 6 t) (iblk m c 7 t)

/-- Row `r` of the branch's block at point `t`, where inside the array, is the branch's row `14288 t + r`. -/
theorem fxBlock_apply (t : Fin cfg0.N) (d : Vec Ideal S14288x128 .f32) (r : Fin 14288) (q : Fin 128)
    (hr : r.val < win0_0.xsize (grid0.coords t) 0) (h : t.val * 14288 + r.val < 100000) :
    fxBlock m c t d (ix2 r q) = fxVal m c ⟨t.val * 14288 + r.val, h⟩ q := by
  unfold fxBlock
  rw [fxOf_apply, branch_staged]
  simp only [x_apply m c t d r _ hr h]
  rfl

/-- Row `r` of the outputs' block at point `t`, where inside the array, is the outputs' row `14288 t + r`. -/
theorem outBlock_apply (t : Fin cfg0.N) (d : Vec Ideal S14288x128 .f32) (r : Fin 14288) (q : Fin 128)
    (hr : r.val < win0_0.xsize (grid0.coords t) 0) (h : t.val * 14288 + r.val < 100000) :
    outBlock m c t d (ix2 r q) = outVal m c ⟨t.val * 14288 + r.val, h⟩ q := by
  unfold outBlock
  rw [outOf_apply, branch_staged]
  simp only [x_apply m c t d r _ hr h]
  rfl

/-- The part of the branch's block inside the array is the array of the branch's values read there. -/
theorem cut_fxBlock (t : Fin cfg0.N) (d : Vec Ideal S14288x128 .f32) :
    win0_9.cut (grid0.coords t) (fxBlock m c t d) = (win0_9.blk t).view.read (Elt Ideal) (fxArr m c) := by
  funext j
  have h0 : (j 0).val < win0_0.xsize (grid0.coords t) 0 := (j 0).isLt
  have h : t.val * 14288 + (j 0).val < 100000 := lt_of_lt_of_le (Nat.add_lt_add_left h0 _) (rows_at t).2
  have h1 : (j 1).val < 128 := lt_of_lt_of_eq (j 1).isLt (rows_at t).1
  have hb : (j 0).val < 14288 := lt_of_lt_of_le h0 (win0_0.xsize_le _ 0)
  have e : win0_9.xinj (grid0.coords t) j = ix2 ⟨(j 0).val, hb⟩ ⟨(j 1).val, h1⟩ := funext fun a => by
    match a with
    | ⟨0, _⟩ => rfl
    | ⟨1, _⟩ => rfl
  refine (congrArg (fxBlock m c t d) e).trans ?_
  rw [fxBlock_apply m c t d ⟨(j 0).val, hb⟩ ⟨(j 1).val, h1⟩ h0 h]
  refine congr (congrArg (fxVal m c) (Fin.ext ?_)) (Fin.ext ?_)
  · blk_simp [index_at t]
  · blk_simp [index_at t]

/-- The part of the outputs' block inside the array is the array of the outputs read there. -/
theorem cut_outBlock (t : Fin cfg0.N) (d : Vec Ideal S14288x128 .f32) :
    win0_8.cut (grid0.coords t) (outBlock m c t d) = (win0_8.blk t).view.read (Elt Ideal) (outArr m c) := by
  funext j
  have h0 : (j 0).val < win0_0.xsize (grid0.coords t) 0 := (j 0).isLt
  have h : t.val * 14288 + (j 0).val < 100000 := lt_of_lt_of_le (Nat.add_lt_add_left h0 _) (rows_at t).2
  have h1 : (j 1).val < 128 := lt_of_lt_of_eq (j 1).isLt (rows_at t).1
  have hb : (j 0).val < 14288 := lt_of_lt_of_le h0 (win0_0.xsize_le _ 0)
  have e : win0_8.xinj (grid0.coords t) j = ix2 ⟨(j 0).val, hb⟩ ⟨(j 1).val, h1⟩ := funext fun a => by
    match a with
    | ⟨0, _⟩ => rfl
    | ⟨1, _⟩ => rfl
  refine (congrArg (outBlock m c t d) e).trans ?_
  rw [outBlock_apply m c t d ⟨(j 0).val, hb⟩ ⟨(j 1).val, h1⟩ h0 h]
  refine congr (congrArg (outVal m c) (Fin.ext ?_)) (Fin.ext ?_)
  · blk_simp [index_at t]
  · blk_simp [index_at t]

end Cert.KernelIdeal.Hand

end
-- ==== Proof.IdealRun.lean ====
/- The idealized kernel's run: from any memory with zero counters it terminates, its two result arrays end holding the
   outputs and the branch's values of the launched arguments (`outArr`, `fxArr`), and the arguments are unchanged. -/
module

public import proofs.«01_k».proof.Proof.IdealRows
public import Idealize.ShloMosaic.Lib.Pipeline.Frame

@[expose] public section

set_option maxRecDepth 16384

noncomputable section

namespace Cert.KernelIdeal.Hand

open Cert.KernelIdeal Cert.KernelIdeal.Gen Cert.Model
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable (m : (ℓ : Loc nD τ sig) → Buf (Elt Ideal) ℓ) (ρ : Dev nD → PrngReg)

/-- Contents for the part of a staging buffer past the array's end, which nothing reads. -/
def pad : Vec Ideal S14288x128 .f32 := fun _ => (0 : EReal)

/-- The proof data on core `c`: the arrays as the region finds them; after the body at point `t` every input buffer holds its
    block and the two result buffers hold what is computed from the blocks; full shares; nothing owed. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) pad (iblk m c 0 t)
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock m c t pad
    | ⟨9, _⟩ => fxBlock m c t pad
  Φ _ := Pipeline.ΦA spec0 c
  q _ := fullShare
  owed _ := 0

theorem A_eq (c : Dev nD) (w : Fin cfg0.W) : (dats m 0 c).A w = V m c (Pipeline.arrRef spec0 w) := by dsimp only [dats]

/-- The buffer of `x` holds, before the body, the fetched block on the rows inside the array and anything past them. -/
theorem before_0 (c : Dev nD) (t : Fin cfg0.N) (d) :
    (dats m 0 c).before 0 t d = win0_0.fill (grid0.coords t) d (iblk m c 0 t) := by
  unfold Dat.before; rw [if_pos (fetch0_0 t)]; rfl

/-- The body table's row at the point is the body as `bodyAt0` spells it. -/
theorem body_row (t : Fin cfg0.N) :
    defs₀ (F := Ideal) .tc cfg0.body (cfg0.bodyArgs t (cfg0.slots t)) = bodyAt0 t := by
  unfold defs₀; rw [Defs.onTc_tc]

/-- The body's obligation at every point: the inputs are left as found, and the two result buffers agree with the proof
    data on the rows inside the array, whatever the staged `x` held past them. -/
theorem body_obligation (c : Dev nD) :
    BodyObligationLoose (dats m 0 c) (defs₀ (F := Ideal)) Variants.none () Set.univ := fun t => by
  rw [bigSep_W0, bigSep_W0, body_row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before_0 m c t d0, before0_1_of m (dats m 0 c) (A_eq m c 1) (fun _ => rfl) t d1,
    before0_2_of m (dats m 0 c) (A_eq m c 2) (fun _ => rfl) t d2, before0_3_of m (dats m 0 c) (A_eq m c 3) (fun _ => rfl) t d3,
    before0_4_of m (dats m 0 c) (A_eq m c 4) (fun _ => rfl) t d4, before0_5_of m (dats m 0 c) (A_eq m c 5) (fun _ => rfl) t d5,
    before0_6_of m (dats m 0 c) (A_eq m c 6) (fun _ => rfl) t d6, before0_7_of m (dats m 0 c) (A_eq m c 7) (fun _ => rfl) t d7]
  unfold bodyAt0
  iapply (kernelRun (F := Ideal) c Set.univ (grid0.coords t) _ _ _ _ _ _ _ _ _ _ _ _ _ _ _ _ _ _ _ _
    (win0_0.fill (grid0.coords t) d0 (iblk m c 0 t)) (iblk m c 1 t) (iblk m c 2 t) (iblk m c 3 t) (iblk m c 4 t) (iblk m c 5 t)
    (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]
  · iexists d0
    change _ ⊢ owns (c : Thread nD τ) (stage0_0 (cfg0.slots t 0)) fullShare (win0_0.fill (grid0.coords t) d0
      (win0_0.cut (grid0.coords t) (win0_0.fill (grid0.coords t) pad (iblk m c 0 t))))
    rw [win0_0.cut_fill]
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists outBlock m c t d0
    change _ ⊢ owns (c : Thread nD τ) (stage0_8 (cfg0.slots t 8)) fullShare (win0_8.fill (grid0.coords t) (outBlock m c t d0)
      (win0_8.cut (grid0.coords t) (outBlock m c t pad)))
    rw [cut_outBlock, ← cut_outBlock m c t d0, win0_8.fill_cut]; exact BI.Entails.refl _
  · iexists fxBlock m c t d0
    change _ ⊢ owns (c : Thread nD τ) (stage0_9 (cfg0.slots t 9)) fullShare (win0_9.fill (grid0.coords t) (fxBlock m c t d0)
      (win0_9.cut (grid0.coords t) (fxBlock m c t pad)))
    rw [cut_fxBlock, ← cut_fxBlock m c t d0, win0_9.fill_cut]; exact BI.Entails.refl _

-- the implicit arguments are found by unifying the conclusion with this statement, which takes unfolding plain definitions
-- in a metavariable's type
set_option backward.isDefEq.respectTransparency.types false in
/-- The run: it terminates, every array of the region ends holding what its blocks were written to, every other buffer what
    the operations after the region leave, and every counter ends at zero. -/
theorem run_main :
    θ_run defs (onTc (τ := τ) (main (F := Ideal))) (s₀ m ρ) (fun r =>
      Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hΦ := fun _ _ => rfl)

/-- The first result array ends holding the outputs. -/
theorem final_out (c : Dev nD) : (dats m 0 c).arrAt 8 cfg0.N = outArr m c :=
  (dats m 0 c).arrAt_eq_of_covers 8 _ (by decide +kernel) fun t _ y => congrFun (cut_outBlock m c t pad) y

/-- The region's second array ends holding the branch's values. -/
theorem final_fx (c : Dev nD) : (dats m 0 c).arrAt 9 cfg0.N = fxArr m c :=
  (dats m 0 c).arrAt_eq_of_covers 9 _ (by decide +kernel) fun t _ y => congrFun (cut_fxBlock m c t pad) y

end Cert.KernelIdeal.Hand

end
-- ==== Proof.IdealResult.lean ====
/- What memory holds after the idealized kernel's run: the two results at their values of the launched arguments, the
   arguments as launched, and every semaphore counter at zero. -/
module

public import proofs.«01_k».proof.Proof.IdealRun

@[expose] public section

set_option maxRecDepth 16384

noncomputable section

namespace Cert.KernelIdeal.Hand

open Cert.KernelIdeal Cert.KernelIdeal.Gen Cert.Model
open Idealize.ShloMosaic Idealize.ShloMosaic.TcCoe Idealize.ShloMosaic.Tactic
open Idealize.SL.Sem

variable (m : (ℓ : Loc nD τ sig) → Buf (Elt Ideal) ℓ) (ρ : Dev nD → PrngReg)

/-- The second result: the branch's values, with an axis of extent one between rows and positions. -/
def fxRes (c : Dev nD) : Buf (Elt Ideal) ((c.tc : Thread nD τ).loc main_v8) := fun i => fxVal m c (i 0) (i 2)

/-- The reshape after the region leaves the branch's values in the second result. -/
theorem tail_fx (c : Dev nD) :
    Pipeline.afterTail₀ cfgs (dats m) 0 (V0 m) [hostOps1] c main_v8 = fxRes m c := by
  have e : Pipeline.afterTail₀ cfgs (dats m) 0 (V0 m) [hostOps1] c main_v8
      = shapeCast S100000x1x128 (fxArr m c) shapeCasts_S100000x128_S100000x1x128 := by
    rw [← final_fx]
    unfold Pipeline.afterTail₀
    generalize hv : Pipeline.withArrays (cfgs 0).spec c (V0 m c) (fun w => (dats m 0 c).arrAt w (cfgs 0).N) = v
    have h9 : v (Proc.tc.devRef main_v7_1) = (dats m 0 c).arrAt 9 cfg0.N := by
      rw [← hv]; exact Pipeline.withArrays_arr _ launch0.win.arr_inj c (V0 m c) _ 9
    simp only [hostOps1, List.flatten_cons, List.flatten_nil, List.append_nil]
    after_results
    rw [h9]
    rfl
  rw [e]
  funext j
  idx_vars j
  pointwise
  rfl

/-- The run, read at the results, the arguments and the counters. -/
theorem run_values :
    θ_run defs (onTc (τ := τ) (main (F := Ideal))) ⟨m, fun _ => 0, ρ⟩ (fun r => (∀ c : Dev nD,
      r.2.mem ((c.tc : Thread nD τ).loc main_v7_0) = outArr m c
      ∧ r.2.mem ((c.tc : Thread nD τ).loc main_v8) = fxRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c =>
    have rest := fun b hb => (h.1 c).2 b hb
    ⟨((h.1 c).1 8).trans (final_out m c),
      (rest main_v8 (Pipeline.mem_restRefs_of main_v8 (by decide) (by decide))).trans (tail_fx m c),
      ((h.1 c).1 0).trans (((dats m 0 c).arrAt_in 0 rfl _).trans ((A_eq m c 0).trans (V_main_arg0 m c))),
      (rest main_arg1 (Pipeline.mem_restRefs_of main_arg1 (by decide) (by decide))).trans (W_main_arg1 m (dats m) c),
      (rest main_arg2 (Pipeline.mem_restRefs_of main_arg2 (by decide) (by decide))).trans (W_main_arg2 m (dats m) c),
      (rest main_arg3 (Pipeline.mem_restRefs_of main_arg3 (by decide) (by decide))).trans (W_main_arg3 m (dats m) c),
      (rest main_arg4 (Pipeline.mem_restRefs_of main_arg4 (by decide) (by decide))).trans (W_main_arg4 m (dats m) c),
      (rest main_arg5 (Pipeline.mem_restRefs_of main_arg5 (by decide) (by decide))).trans (W_main_arg5 m (dats m) c),
      (rest main_arg6 (Pipeline.mem_restRefs_of main_arg6 (by decide) (by decide))).trans (W_main_arg6 m (dats m) c),
      (rest main_arg7 (Pipeline.mem_restRefs_of main_arg7 (by decide) (by decide))).trans (W_main_arg7 m (dats m) c)⟩, h.2⟩)
    (run_main m ρ)

end Cert.KernelIdeal.Hand

end
-- ==== Proof.RefRow.lean ====
/- What the reference computes: its two results, read at an index, are the three-layer branch of the same row of `x`, and
   that plus the row's own entry. -/
module

public import proofs.«01_k».proof.Proof.Gen.ReferenceIdeal.Run
public import proofs.«01_k».proof.Proof.Model
public import Idealize.ShloMosaic.Lib.Tactic.CleanTypes

@[expose] public section

noncomputable section

namespace Cert.ReferenceIdeal.Hand

open Cert.ReferenceIdeal Cert.ReferenceIdeal.Gen Cert.ReferenceIdeal.Value Cert.Model
open Idealize.ShloMosaic Idealize.ShloMosaic.TcCoe Idealize.SL.Sem

variable (m : (ℓ : Loc nD τ sig) → Buf (Elt Ideal) ℓ) (c : Dev nD)

/-- The reference's second result at row `r`, position `q`, is the branch's value there. -/
theorem fx_apply (r : Fin 100000) (q : Fin 128) :
    (res_main_v41 (F := Ideal) m c : FVec Ideal S100000x1x128 .f32) (ix3 r 0 q) =
      fxAt (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) r q := by
  unfold res_main_v41
  clean_types
  pointwise
  simp only [ne_eq, not_true_eq_false, if_false, ofBits_eleven, ofBits_ten]
  rfl

/-- The reference's first result at row `r`, position `q`, is the output's value there. -/
theorem out_apply (r : Fin 100000) (q : Fin 128) :
    (res_main_v43 (F := Ideal) m c : FVec Ideal S100000x128 .f32) (ix2 r q) =
      outAt (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) r q := by
  unfold res_main_v43
  clean_types
  pointwise
  simp only [ne_eq, not_true_eq_false, if_false, ofBits_eleven, ofBits_ten]
  rfl

end Cert.ReferenceIdeal.Hand

end
-- ==== Proof.Equation.lean ====
/- The equation between the two programs: from memories that agree on the arguments, the reference's two results are the
   arrays the idealized kernel's run ends with. -/
module

public import proofs.«01_k».proof.Proof.IdealResult
public import proofs.«01_k».proof.Proof.RefRow

@[expose] public section

set_option maxRecDepth 16384

noncomputable section

namespace Cert.Hand

open Idealize.ShloMosaic Idealize.ShloMosaic.TcCoe

/-- The two memories hold the same eight arguments on device `c`. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}
  {c : Dev Cert.KernelIdeal.nD}

/-- The reference's first result is the kernel's first result. -/
theorem out_eq (h : Agree m m' c) :
    (Cert.ReferenceIdeal.Value.res_main_v43 (F := Ideal) m' c : FVec Ideal ⟨2, ![100000, 128]⟩ .f32) = Cert.KernelIdeal.Hand.outArr m c := by
  obtain ⟨h0, h1, h2, h3, h4, h5, h6, h7⟩ := h
  funext j
  rw [eq_ix2 j]
  refine (Cert.ReferenceIdeal.Hand.out_apply m' c (j 0) (j 1)).trans ?_
  rw [h0, h1, h2, h3, h4, h5, h6, h7]
  rfl

/-- The reference's second result is the kernel's second result. -/
theorem fx_eq (h : Agree m m' c) :
    (Cert.ReferenceIdeal.Value.res_main_v41 (F := Ideal) m' c : FVec Ideal ⟨3, ![100000, 1, 128]⟩ .f32) = Cert.KernelIdeal.Hand.fxRes m c := by
  obtain ⟨h0, h1, h2, h3, h4, h5, h6, h7⟩ := h
  funext j
  have e : j = ix3 (j 0) 0 (j 2) := funext fun a => by
    match a with
    | ⟨0, _⟩ => rfl
    | ⟨1, _⟩ => exact Subsingleton.elim (α := Fin 1) _ _
    | ⟨2, _⟩ => rfl
  rw [e]
  refine (Cert.ReferenceIdeal.Hand.fx_apply m' c (j 0) (j 2)).trans ?_
  rw [h0, h1, h2, h3, h4, h5, h6, h7]
  rfl

end Cert.Hand

end
-- ==== Proof.lean ====
/- The proof of the five claims. The kernel and the idealized kernel run and keep their arguments (`Proof/KernelFrame.lean`,
   `Proof/IdealResult.lean`), and so does the reference; the idealized kernel differs from the kernel in one named constant;
   and both idealized programs end with the same two results (`Proof/Equation.lean`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent
public import proofs.«01_k».proof.Proof.KernelFrame
public import proofs.«01_k».proof.Proof.IdealResult
public import proofs.«01_k».proof.Proof.Equation

@[expose] public section

noncomputable section

namespace Cert.Proof

open Idealize.ShloMosaic Idealize.SL.Sem

/-- The kernel runs, keeps its arguments and leaves every counter at zero. -/
theorem kernel_frame : Cert.quiescent_Kernel (hKernel := Cert.Kernel.Gen.facts) :=
  fun m ρ _ => Cert.Kernel.Hand.run_args m ρ

/-- The idealized kernel runs, keeps its arguments and leaves every counter at zero. -/
theorem ideal_frame : Cert.quiescent_KernelIdeal (hKernelIdeal := Cert.KernelIdeal.Gen.facts) :=
  fun m ρ _ => (θ_run _ _ _).mono (fun _ h => ⟨fun c => (h.1 c).2.2, h.2⟩) (Cert.KernelIdeal.Hand.run_values m ρ)

/-- The reference runs and keeps its arguments; it has no counters. -/
theorem reference_frame : Cert.quiescent_ReferenceIdeal (hReferenceIdeal := Cert.ReferenceIdeal.Gen.facts) :=
  fun m ρ _ => (θ_run _ _ _).mono (fun r h => ⟨fun c => (h c).2.2, sem_eq_zero_of_no_sems (by decide) r.2⟩)
    (Cert.ReferenceIdeal.Value.run (F := Ideal) m ρ)

/-- The named constant stands for the kernel's printed word. -/
theorem named : Cert.preserves_Kernel_KernelIdeal :=
  IdealRules.named_const.statement Cert.KernelIdeal.κ "scale" .f32 0x3EE8BA2F#32 ((5 / 11 : ℝ) : EReal) rfl

/-- The idealized kernel and the reference end with equal results: the outputs and the branch's values. -/
theorem equal_results : Cert.algebraic_KernelIdeal_ReferenceIdeal (hKernelIdeal := Cert.KernelIdeal.Gen.facts)
    (hReferenceIdeal := Cert.ReferenceIdeal.Gen.facts) :=
  fun m ρ m' ρ' _ agree => ⟨Cert.KernelIdeal.Hand.outArr m, Cert.KernelIdeal.Hand.fxRes m,
    (θ_run _ _ _).mono (fun _ h c => h.1 c) (Cert.KernelIdeal.Hand.run_values m ρ),
    (θ_run _ _ _).mono (fun _ h c =>
      ⟨(h c).1.trans (Cert.Hand.out_eq (agree c)), (h c).2.1.trans (Cert.Hand.fx_eq (agree c)), (h c).2.2⟩)
      (Cert.ReferenceIdeal.Value.run (F := Ideal) m' ρ')⟩

theorem claim : Cert.Claim := ⟨Cert.Kernel.Gen.facts, Cert.KernelIdeal.Gen.facts, Cert.ReferenceIdeal.Gen.facts,
  kernel_frame, ideal_frame, reference_frame, named, equal_results⟩

end Cert.Proof

end
